-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x8192 : Shape := ⟨3, ![6, 2048, 8192]⟩
abbrev S12288x8192 : Shape := ⟨2, ![12288, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S12288x1 : Shape := ⟨2, ![12288, 1]⟩
abbrev S256x8192 : Shape := ⟨2, ![256, 8192]⟩

abbrev nBuf : Space → Nat
  | .hbm => 68
  | .vmem => 8
  | .smem => 0
  | _ => 0

abbrev bufTy : (tb : Table) → Fin (tcTables nBuf tb) → BufTy
  | .hbm, ⟨0, _⟩ => ⟨S6x2048x8192, .bf16⟩
  | .hbm, ⟨1, _⟩ => ⟨S12288x8192, .bf16⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S1x256, .i32⟩
  | .hbm, ⟨39, _⟩ => ⟨S_, .i32⟩
  | .hbm, ⟨40, _⟩ => ⟨S1x256, .i32⟩
  | .hbm, ⟨41, _⟩ => ⟨S1x256, .i1⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S_, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S256x256, .i32⟩
  | .hbm, ⟨60, _⟩ => ⟨S256x256, .i32⟩
  | .hbm, ⟨61, _⟩ => ⟨S_, .i32⟩
  | .hbm, ⟨62, _⟩ => ⟨S_, .i32⟩
  | .hbm, ⟨63, _⟩ => ⟨S256x256, .i32⟩
  | .hbm, ⟨64, _⟩ => ⟨S256x256, .i32⟩
  | .hbm, ⟨65, _⟩ => ⟨S256x256, .bf16⟩
  | .hbm, ⟨66, _⟩ => ⟨S12288x1, .f32⟩
  | .hbm, ⟨67, _⟩ => ⟨S12288x8192, .fp8e4m3⟩
  | .local _ .vmem, ⟨0, _⟩ => ⟨S256x8192, .bf16⟩
  | .local _ .vmem, ⟨1, _⟩ => ⟨S256x8192, .bf16⟩
  | .local _ .vmem, ⟨2, _⟩ => ⟨S256x256, .bf16⟩
  | .local _ .vmem, ⟨3, _⟩ => ⟨S256x1, .f32⟩
  | .local _ .vmem, ⟨4, _⟩ => ⟨S256x1, .f32⟩
  | .local _ .vmem, ⟨5, _⟩ => ⟨S256x8192, .fp8e4m3⟩
  | .local _ .vmem, ⟨6, _⟩ => ⟨S256x8192, .fp8e4m3⟩
  | .local _ .vmem, ⟨7, _⟩ => ⟨S256x8192, .f32⟩
  | _, _ => ⟨S6x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_3 : Ref sig .tc := ⟨.hbm, 55, rfl⟩
abbrev main_v18 : Ref sig .tc := ⟨.hbm, 56, rfl⟩
abbrev main_v19 : Ref sig .tc := ⟨.hbm, 57, rfl⟩
abbrev main_c_4 : Ref sig .tc := ⟨.hbm, 58, rfl⟩
abbrev main_v20 : Ref sig .tc := ⟨.hbm, 59, rfl⟩
abbrev main_v21 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_v22 : Ref sig .tc := ⟨.hbm, 64, rfl⟩
abbrev main_v23 : Ref sig .tc := ⟨.hbm, 65, rfl⟩
abbrev main_v24_0 : Ref sig .tc := ⟨.hbm, 66, rfl⟩
abbrev main_v24_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S6x2048x8192 : Shape := ⟨3, ![6, 2048, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S6x2048x64x128 : Shape := ⟨4, ![6, 2048, 64, 128]⟩
abbrev S12288x8192 : Shape := ⟨2, ![12288, 8192]⟩
abbrev S12288x1 : Shape := ⟨2, ![12288, 1]⟩
abbrev S12288 : Shape := ⟨1, ![12288]⟩

abbrev nBuf : Space → Nat
  | .hbm => 27
  | .vmem => 3
  | .smem => 0
  | _ => 0

abbrev bufTy : (tb : Table) → Fin (tcTables nBuf tb) → BufTy
  | .hbm, ⟨0, _⟩ => ⟨S6x2048x8192, .bf16⟩
  | .hbm, ⟨1, _⟩ => ⟨S128, .i32⟩
  | .hbm, ⟨2, _⟩ => ⟨S128x1, .i32⟩
  | .hbm, ⟨3, _⟩ => ⟨S128, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .bf16⟩
  | .hbm, ⟨19, _⟩ => ⟨S6x2048x64x128, .bf16⟩
  | .hbm, ⟨20, _⟩ => ⟨S6x2048x64x128, .f32⟩
  | .hbm, ⟨21, _⟩ => ⟨S_, .f32⟩
  | .hbm, ⟨22, _⟩ => ⟨S6x2048x64x128, .f32⟩
  | .hbm, ⟨23, _⟩ => ⟨S6x2048x64x128, .f32⟩
  | .hbm, ⟨24, _⟩ => ⟨S12288x8192, .f32⟩
  | .hbm, ⟨25, _⟩ => ⟨S12288x1, .f32⟩
  | .hbm, ⟨26, _⟩ => ⟨S12288x8192, .fp8e4m3⟩
  | .local _ .vmem, ⟨0, _⟩ => ⟨S12288x8192, .f32⟩
  | .local _ .vmem, ⟨1, _⟩ => ⟨S12288x1, .f32⟩
  | .local _ .vmem, ⟨2, _⟩ => ⟨S12288x8192, .fp8e4m3⟩
  | _, _ => ⟨S6x2048x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12288x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Scale.lean ====
/- The power-of-two scale of one token, as a function of the token's largest magnitude: the kernel's way (a search for the
   exponent field of a float) and the reference's way (the logarithm to base two) give the same scale and the same inverse
   scale at every extended real. -/
module

public import Idealize.ShloMosaic.PureOps.Ideal
public import Idealize.ShloMosaic.Lib.IdealHost
public import Mathlib.Analysis.SpecialFunctions.Log.Basic
public import Mathlib.Analysis.SpecialFunctions.Pow.Real

@[expose] public section

noncomputable section

namespace Cert.Proof

open Idealize.ShloMosaic

/-- The float whose exponent field is `b` and whose other bits are zero. -/
def ofField (b : BitVec 32) : EReal := Ideal.ieee 8 23 (b <<< 23)

/-- The value of the float with exponent field `n`: zero, a power of two, or infinity. -/
def fieldValue (n : ℕ) : EReal := if n = 0 then 0 else if n = 255 then ⊤ else (((2 : ℝ) ^ ((n : ℤ) - 127) : ℝ) : EReal)

theorem field_bits : ∀ n : Fin 256,
    ((BitVec.ofNat 32 n.1 <<< 23).extractLsb' 31 1 == 1#1) = false
    ∧ ((BitVec.ofNat 32 n.1 <<< 23).extractLsb' 23 8).toNat = n.1
    ∧ ((BitVec.ofNat 32 n.1 <<< 23).extractLsb' 0 23).toNat = 0 := by decide +kernel

/-- The word with exponent field `n` denotes `fieldValue n`. -/
theorem ofField_ofNat (n : ℕ) (h : n < 256) : ofField (BitVec.ofNat 32 n) = fieldValue n := by
  obtain ⟨h1, h2, h3⟩ := field_bits ⟨n, h⟩
  simp only at h1 h2 h3
  unfold ofField Ideal.ieee fieldValue
  simp only [show (8 + 23 : ℕ) = 31 from rfl, h1, h2, h3, Bool.false_eq_true, if_false]
  by_cases h0 : n = 0
  · subst h0; norm_num
  by_cases h255 : n = 255
  · subst h255
    rw [if_pos (show 255 = 2 ^ 8 - 1 by norm_num), if_neg (show ¬ 255 = 0 by norm_num), if_pos rfl]
    exact if_pos trivial
  · rw [if_neg (by norm_num; exact h255), if_neg h0, if_neg h0, if_neg h255, EReal.coe_eq_coe_iff]
    norm_num
    rw [show ((n : ℤ) - 127) = ((n : ℤ) - 127 - 23) + 23 by ring, zpow_add₀ (by norm_num : (2 : ℝ) ≠ 0)]
    norm_num
    ring

/-- The value grows with the field. -/
theorem fieldValue_mono {a b : ℕ} (hab : a ≤ b) (hb : b ≤ 255) : fieldValue a ≤ fieldValue b := by
  unfold fieldValue
  by_cases ha0 : a = 0
  · rw [if_pos ha0]
    split_ifs
    · exact le_refl _
    · exact le_top
    · exact_mod_cast (by positivity : (0 : ℝ) ≤ (2 : ℝ) ^ ((b : ℤ) - 127))
  by_cases hb255 : b = 255
  · rw [if_neg (show ¬ b = 0 by omega), if_pos hb255]; exact le_top
  rw [if_neg ha0, if_neg (show ¬ a = 255 by omega), if_neg (show ¬ b = 0 by omega), if_neg hb255]
  rw [EReal.coe_le_coe_iff]
  exact zpow_le_zpow_right₀ (by norm_num : (1 : ℝ) ≤ 2) (by omega)

/-- One step of the search: the bit is kept when the float with the bit set is at most `t`. -/
def searchStep (t : EReal) (field bit : BitVec 32) : BitVec 32 :=
  if ofField (field + bit) ≤ t then field + bit else field

/-- The search, from the highest bit of the field to the lowest. -/
def search (t : EReal) : BitVec 32 :=
  searchStep t (searchStep t (searchStep t (searchStep t (searchStep t (searchStep t (searchStep t (searchStep t 0#32 128#32)
    64#32) 32#32) 16#32) 8#32) 4#32) 2#32) 1#32

/-- What the search knows when the bits below `w` are open: the field `n` is not too large, `n + w` is. -/
def Bracket (t : EReal) (w n : ℕ) : Prop :=
  n + w ≤ 256 ∧ (n = 0 ∨ fieldValue n ≤ t) ∧ (n + w = 256 ∨ t < fieldValue (n + w))

/-- One step halves the bracket. -/
theorem bracket_step {t : EReal} {w n : ℕ} (hw : 0 < w) (h : Bracket t (w + w) n) {field : BitVec 32} (hf : field = BitVec.ofNat 32 n) :
    ∃ n', Bracket t w n' ∧ searchStep t field (BitVec.ofNat 32 w) = BitVec.ofNat 32 n' := by
  obtain ⟨h1, h2, h3⟩ := h
  subst hf
  unfold searchStep
  rw [← BitVec.ofNat_add, ofField_ofNat _ (by omega)]
  by_cases hle : fieldValue (n + w) ≤ t
  · rw [if_pos hle]
    exact ⟨n + w, ⟨by omega, .inr hle, by rw [Nat.add_assoc]; exact h3⟩, rfl⟩
  · rw [if_neg hle]
    exact ⟨n, ⟨by omega, h2, .inr (lt_of_not_ge hle)⟩, rfl⟩

/-- The search finds the greatest field whose float is at most `t` (field 0 when there is none). -/
theorem search_spec (t : EReal) : ∃ n, Bracket t 1 n ∧ search t = BitVec.ofNat 32 n := by
  have h0 : Bracket t (128 + 128) 0 := ⟨by norm_num, .inl rfl, .inl (by norm_num)⟩
  obtain ⟨n1, b1, e1⟩ := bracket_step (w := 128) (by norm_num) h0 rfl
  obtain ⟨n2, b2, e2⟩ := bracket_step (w := 64) (by norm_num) b1 e1
  obtain ⟨n3, b3, e3⟩ := bracket_step (w := 32) (by norm_num) b2 e2
  obtain ⟨n4, b4, e4⟩ := bracket_step (w := 16) (by norm_num) b3 e3
  obtain ⟨n5, b5, e5⟩ := bracket_step (w := 8) (by norm_num) b4 e4
  obtain ⟨n6, b6, e6⟩ := bracket_step (w := 4) (by norm_num) b5 e5
  obtain ⟨n7, b7, e7⟩ := bracket_step (w := 2) (by norm_num) b6 e6
  obtain ⟨n8, b8, e8⟩ := bracket_step (w := 1) (by norm_num) b7 e7
  exact ⟨n8, b8, e8⟩

/-- The exponent a field stands for in the kernel (0 for the fields of zero and infinity). -/
def fieldExponent (field : BitVec 32) : BitVec 32 := if field = 255#32 ∨ field = 0#32 then 0#32 else field - 126#32

/-- The kernel's exponent of a token whose largest magnitude is `a`. -/
def kernelExponent (a t : EReal) : BitVec 32 := if a = 0 then 0#32 else fieldExponent (search t)

/-- The exponent field of `2 ^ k`, clipped to `[0, 255]`. -/
def powField (k : BitVec 32) : BitVec 32 :=
  let m := if (k + 127#32).slt 0#32 then 0#32 else k + 127#32
  if BitVec.slt 255#32 m then 255#32 else m

/-- The kernel's scale … -/
def kernelScale (a t : EReal) : EReal := ofField (powField (kernelExponent a t))

/-- … and its inverse scale. -/
def kernelInv (a t : EReal) : EReal := ofField (powField (0#32 - kernelExponent a t))

/-- The fields of the scale and of its inverse, field by field. -/
theorem powField_fieldExponent : ∀ n : Fin 256,
    powField (fieldExponent (BitVec.ofNat 32 n.1)) = BitVec.ofNat 32 (if n.1 = 0 ∨ n.1 = 255 then 127 else n.1 + 1)
    ∧ powField (0#32 - fieldExponent (BitVec.ofNat 32 n.1)) = BitVec.ofNat 32 (if n.1 = 0 ∨ n.1 = 255 then 127 else 253 - n.1) := by
  decide +kernel

theorem powField_zero : powField 0#32 = BitVec.ofNat 32 127 ∧ powField (0#32 - 0#32) = BitVec.ofNat 32 127 := by decide +kernel

/-- The reference's exponent of a token whose largest magnitude is `a`, `t` being `a` times the rounded 1/448. -/
def refExponent (a t : EReal) : EReal :=
  if a = 0 then 0
  else if (((2 : ℝ) ^ (-126 : ℤ) : ℝ) : EReal) ≤ t ∧ t < ⊤ then
    Ideal.liftRound Int.floor (Ideal.div (Ideal.log t) (Ideal.log ((2 : ℝ) : EReal))) + 1
  else 0

/-- The reference's power of two, with the flush to zero and to infinity of the format. -/
def refPow (k : EReal) : EReal :=
  if ((127 : ℝ) : EReal) < k then ⊤ else if k < ((-126 : ℝ) : EReal) then 0 else Ideal.exp2 k

theorem fieldValue_127 : fieldValue 127 = 1 := by unfold fieldValue; norm_num

theorem refPow_zero : refPow 0 = 1 := by
  unfold refPow
  rw [show (0 : EReal) = ((0 : ℝ) : EReal) from rfl, if_neg (by norm_cast), if_neg (by norm_cast)]
  rw [Ideal.exp2_coe]; simp

/-- The reference's power of two at an integer. -/
theorem refPow_int (k : ℤ) : refPow ((k : ℝ) : EReal) =
    if 127 < k then ⊤ else if k < -126 then 0 else (((2 : ℝ) ^ k : ℝ) : EReal) := by
  unfold refPow
  have e1 : (((127 : ℝ) : EReal) < ((k : ℝ) : EReal)) ↔ 127 < k := by
    rw [EReal.coe_lt_coe_iff]; exact_mod_cast Iff.rfl
  have e2 : (((k : ℝ) : EReal) < ((-126 : ℝ) : EReal)) ↔ k < -126 := by
    rw [EReal.coe_lt_coe_iff]; exact_mod_cast Iff.rfl
  simp only [e1, e2]
  congr 2
  rw [Ideal.exp2_coe]
  congr 1
  exact Real.rpow_intCast 2 k

/-- The reference's exponent in a binade: `2 ^ k ≤ r < 2 ^ (k + 1)` gives `k`. -/
theorem floor_log (r : ℝ) (hr : 0 < r) : ∃ k : ℤ, (2 : ℝ) ^ k ≤ r ∧ r < (2 : ℝ) ^ (k + 1)
    ∧ Ideal.liftRound Int.floor (Ideal.div (Ideal.log (r : EReal)) (Ideal.log ((2 : ℝ) : EReal))) = ((k : ℝ) : EReal) := by
  have hl2 : 0 < Real.log 2 := Real.log_pos (by norm_num)
  refine ⟨⌊Real.log r / Real.log 2⌋, ?_, ?_, ?_⟩
  · have h := Int.floor_le (Real.log r / Real.log 2)
    rw [le_div_iff₀ hl2] at h
    rw [← Real.log_le_log_iff (by positivity) hr, Real.log_zpow]
    exact h
  · have h := Int.lt_floor_add_one (Real.log r / Real.log 2)
    rw [div_lt_iff₀ hl2] at h
    rw [← Real.log_lt_log_iff hr (by positivity), Real.log_zpow]
    push_cast
    exact h
  · rw [Ideal.log_coe, if_neg (not_le.mpr hr), Ideal.log_coe, if_neg (by norm_num)]
    unfold Ideal.div
    rw [if_neg (by exact_mod_cast hl2.ne')]
    rw [← EReal.coe_inv, ← EReal.coe_mul, Ideal.liftRound_coe, ← div_eq_mul_inv]

/-- The kernel's scale and inverse scale are the reference's, whatever the largest magnitude. -/
theorem scale_eq (a t : EReal) : kernelScale a t = refPow (refExponent a t) ∧ kernelInv a t = refPow (0 - refExponent a t) := by
  unfold kernelScale kernelInv kernelExponent refExponent
  by_cases ha : a = 0
  · simp only [if_pos ha, powField_zero.1, powField_zero.2, ofField_ofNat 127 (by norm_num), fieldValue_127, sub_zero, refPow_zero]
    exact ⟨trivial, trivial⟩
  simp only [if_neg ha]
  obtain ⟨n, ⟨h1, h2, h3⟩, hs⟩ := search_spec t
  have hn : n < 256 := by omega
  obtain ⟨p1, p2⟩ := powField_fieldExponent ⟨n, hn⟩
  simp only at p1 p2
  rw [hs, p1, p2]
  have v1 : fieldValue 1 = (((2 : ℝ) ^ (-126 : ℤ) : ℝ) : EReal) := by unfold fieldValue; norm_num
  have v255 : fieldValue 255 = ⊤ := by unfold fieldValue; norm_num
  by_cases hin : n = 0 ∨ n = 255
  · have hnot : ¬ ((((2 : ℝ) ^ (-126 : ℤ) : ℝ) : EReal) ≤ t ∧ t < ⊤) := by
      rintro ⟨q1, q2⟩
      rcases hin with rfl | rfl
      · rcases h3 with h3 | h3
        · omega
        · rw [v1] at h3; exact absurd h3 (not_lt.mpr q1)
      · rcases h2 with h2 | h2
        · omega
        · rw [v255] at h2; exact absurd q2 (not_lt.mpr h2)
    rw [if_pos hin, if_pos hin, if_neg hnot, ofField_ofNat 127 (by norm_num), fieldValue_127, sub_zero, refPow_zero]
    exact ⟨rfl, rfl⟩
  · have hn0 : n ≠ 0 := fun h => hin (.inl h)
    have hn255 : n ≠ 255 := fun h => hin (.inr h)
    have hlo : fieldValue n ≤ t := h2.resolve_left hn0
    have hhi : t < fieldValue (n + 1) := h3.resolve_left (by omega)
    have htop : t < ⊤ := lt_of_lt_of_le hhi le_top
    have hnorm : (((2 : ℝ) ^ (-126 : ℤ) : ℝ) : EReal) ≤ t ∧ t < ⊤ :=
      ⟨v1 ▸ (fieldValue_mono (by omega) (by omega)).trans hlo, htop⟩
    rw [if_neg hin, if_neg hin, if_pos hnorm]
    have vn : fieldValue n = (((2 : ℝ) ^ ((n : ℤ) - 127) : ℝ) : EReal) := by unfold fieldValue; rw [if_neg hn0, if_neg hn255]
    have htbot : t ≠ ⊥ := by
      rintro rfl; rw [vn] at hlo; exact absurd hlo (by simp)
    lift t to ℝ using ⟨htop.ne, htbot⟩ with r
    rw [vn, EReal.coe_le_coe_iff] at hlo
    have hr : 0 < r := lt_of_lt_of_le (by positivity) hlo
    obtain ⟨k, k1, k2, k3⟩ := floor_log r hr
    rw [k3, show (1 : EReal) = ((1 : ℝ) : EReal) from rfl, ← EReal.coe_add,
      show (k : ℝ) + 1 = ((k + 1 : ℤ) : ℝ) by push_cast; rfl,
      show (0 : EReal) - (((k + 1 : ℤ) : ℝ) : EReal) = (((-(k + 1) : ℤ) : ℝ) : EReal) by
        rw [zero_sub, ← EReal.coe_neg]; push_cast; rfl,
      refPow_int, refPow_int, ofField_ofNat _ (by omega), ofField_ofNat _ (by omega)]
    have hk1 : (n : ℤ) - 127 < k + 1 := (zpow_lt_zpow_iff_right₀ (by norm_num : (1 : ℝ) < 2)).mp (lt_of_le_of_lt hlo k2)
    by_cases h254 : n = 254
    · subst h254
      rw [if_pos (by omega), if_neg (by omega), if_pos (by omega)]
      exact ⟨by unfold fieldValue; rw [if_neg (by decide), if_pos rfl], by unfold fieldValue; rw [if_pos rfl]⟩
    · have vn1 : fieldValue (n + 1) = (((2 : ℝ) ^ ((n : ℤ) + 1 - 127) : ℝ) : EReal) := by
        unfold fieldValue; rw [if_neg (by omega), if_neg (by omega)]; push_cast; rfl
      rw [vn1, EReal.coe_lt_coe_iff] at hhi
      have hk2 : k < (n : ℤ) + 1 - 127 := (zpow_lt_zpow_iff_right₀ (by norm_num : (1 : ℝ) < 2)).mp (lt_of_le_of_lt k1 hhi)
      obtain rfl : k = (n : ℤ) - 127 := by omega
      rw [if_neg (by omega), if_neg (by omega), if_neg (by omega), vn1]
      refine ⟨by rw [show (n : ℤ) - 127 + 1 = (n : ℤ) + 1 - 127 by ring], ?_⟩
      by_cases h253 : n = 253
      · subst h253
        rw [if_pos (by norm_num)]; unfold fieldValue; norm_num
      · rw [if_neg (by omega)]
        unfold fieldValue
        rw [if_neg (by omega), if_neg (by omega), show ((253 - n : ℕ) : ℤ) - 127 = -((n : ℤ) - 127 + 1) by omega]

end Cert.Proof

end
-- ==== Proof.Signs.lean ====
/- The Hadamard signs both programs rotate by, and the arithmetic of the rotation: a product with the block-diagonal matrix of
   two copies of the 128 × 128 sign matrix, 256 columns at a time, is the product with the sign matrix 128 columns at a time. -/
module

public import Idealize.ShloMosaic.PureOps.Ideal
public import Idealize.ShloMosaic.Lib.IdealHost
public import Idealize.ShloMosaic.Lib.Pointwise

@[expose] public section

noncomputable section

namespace Cert.Proof

open Idealize.ShloMosaic

/-- The sign at row `i`, column `j` of the Sylvester-ordered Hadamard matrix, as a word: one minus twice the parity of the
    ones that `i` and `j` have in common. -/
def signWord (i j : BitVec 32) : BitVec 32 :=
  IntOp.subi 1#32 (IntOp.muli 2#32 (IntOp.andi (IntOp.ctpop (IntOp.andi i j)) 1#32))

/-- The same sign as an extended real. -/
def sign (i j : ℕ) : EReal := FloatOps.sitofp (F := Ideal) .bf16 (signWord (BitVec.ofNat 32 i) (BitVec.ofNat 32 j))

/-- A number below 256, masked to its low seven bits. -/
theorem mask_ofNat : ∀ i : Fin 256, BitVec.ofNat 32 i.1 &&& 127#32 = BitVec.ofNat 32 (i.1 % 128) := by decide +kernel

/-- The sign of the low seven bits of two numbers. -/
theorem signWord_mask (i j : Fin 256) :
    IntOp.subi 1#32 (IntOp.muli 2#32 (IntOp.andi (IntOp.ctpop (IntOp.andi (IntOp.andi (BitVec.ofNat 32 i.1) (BitVec.ofNat 32 j.1)) 127#32)) 1#32))
      = signWord (BitVec.ofNat 32 (i.1 % 128)) (BitVec.ofNat 32 (j.1 % 128)) := by
  unfold signWord
  rw [← mask_ofNat i, ← mask_ofNat j]
  have h : IntOp.andi (IntOp.andi (BitVec.ofNat 32 i.1) (BitVec.ofNat 32 j.1)) 127#32
      = IntOp.andi (BitVec.ofNat 32 i.1 &&& 127#32) (BitVec.ofNat 32 j.1 &&& 127#32) := by
    show (BitVec.ofNat 32 i.1 &&& BitVec.ofNat 32 j.1) &&& 127#32 = (BitVec.ofNat 32 i.1 &&& 127#32) &&& (BitVec.ofNat 32 j.1 &&& 127#32)
    ext k hk
    simp only [BitVec.getElem_and]
    cases (BitVec.ofNat 32 i.1)[k] <;> cases (BitVec.ofNat 32 j.1)[k] <;> cases (127#32)[k] <;> rfl
  rw [h]

/-- Division by 128 rounding down, as the host program spells it out for signed words: the quotient rounding to zero, less
    one when the signs differ and the remainder is not zero. -/
def floorDiv128 (w : BitVec 32) : BitVec 32 :=
  Scalar.select
    (IntOp.andi
      (IntOp.cmpi .ne (if w = 0 then 0 else if w.msb = true then -1 else 1 : BitVec 32)
        (if 128#32 = 0 then 0 else if (128#32).msb = true then -1 else 1 : BitVec 32))
      (IntOp.cmpi .ne (IntOp.remsi ArithUnit.host w 128#32) 0#32))
    (IntOp.subi (IntOp.divsi ArithUnit.host w 128#32) 1#32)
    (IntOp.divsi ArithUnit.host w 128#32)

theorem floorDiv128_ofNat : ∀ i : Fin 256, floorDiv128 (BitVec.ofNat 32 i.1) = BitVec.ofNat 32 (i.1 / 128) := by decide +kernel

/-- The block-diagonal sign matrix: the signs of the low seven bits where row and column lie in the same half, zero elsewhere. -/
def blockSign (i j : ℕ) : EReal := if i / 128 = j / 128 then sign (i % 128) (j % 128) else 0

/-- What the kernel's host program computes at row `i`, column `j` of its sign matrix is the block-diagonal sign there. -/
theorem blockSign_eq (i j : Fin 256) :
    FloatOps.sitofp (F := Ideal) .bf16 (Scalar.select
        (IntOp.cmpi .eq (floorDiv128 (BitVec.ofNat 32 i.1)) (floorDiv128 (BitVec.ofNat 32 j.1)))
        (IntOp.subi 1#32 (IntOp.muli 2#32 (IntOp.andi (IntOp.ctpop (IntOp.andi (IntOp.andi (BitVec.ofNat 32 i.1) (BitVec.ofNat 32 j.1)) 127#32)) 1#32)))
        0#32) = blockSign i.1 j.1 := by
  rw [floorDiv128_ofNat, floorDiv128_ofNat, signWord_mask]
  have hi := i.2
  have hj := j.2
  have hw : (BitVec.ofNat 32 (i.1 / 128) = BitVec.ofNat 32 (j.1 / 128)) ↔ i.1 / 128 = j.1 / 128 := by
    constructor
    · intro h
      have := congrArg BitVec.toNat h
      simp only [BitVec.toNat_ofNat] at this
      omega
    · intro h; rw [h]
  by_cases h : i.1 / 128 = j.1 / 128
  · rw [blockSign, if_pos h, h]
    simp [IntOp.cmpi, Scalar.select, sign]
  · rw [blockSign, if_neg h]
    have h' : ¬ (BitVec.ofNat 32 (i.1 / 128) = BitVec.ofNat 32 (j.1 / 128)) := fun e => h (hw.mp e)
    have hc : IntOp.cmpi .eq (BitVec.ofNat 32 (i.1 / 128)) (BitVec.ofNat 32 (j.1 / 128)) = 0#1 := by
      show BitVec.ofBool (BitVec.ofNat 32 (i.1 / 128) == BitVec.ofNat 32 (j.1 / 128)) = 0#1
      rw [beq_false_of_ne h']
      rfl
    rw [hc]
    show (((0#32).toInt : ℝ) : EReal) = 0
    simp

/-- The input's elements: batch, position, column. -/
abbrev Input : Type := (⟨3, ![6, 2048, 8192]⟩ : Shape).Idx → EReal

/-- Row `r` of the input flattened to rows: batch `r / 2048`, position `r % 2048`; zero past the last column. -/
def row (x : Input) (r : Fin 12288) (q : ℕ) : EReal :=
  if h : q < 8192 then x (ix3 ⟨r.1 / 2048, by omega⟩ ⟨r.1 % 2048, by omega⟩ ⟨q, h⟩) else 0

/-- The input reshaped to rows, read at a row and a column. -/
theorem flatten_apply (x : Input) (h : (⟨3, ![6, 2048, 8192]⟩ : Shape).ShapeCasts ⟨2, ![12288, 8192]⟩) (r : Fin 12288) (q : Fin 8192) :
    shapeCast ⟨2, ![12288, 8192]⟩ x h (ix2 r q) = row x r q.1 := by
  rw [row, dif_pos q.2]
  pointwise

/-- Column `q` of a row after the rotation and the norm: the row's group of 128 holding `q`, against the signs' column. -/
def rotated (norm : EReal) (x : ℕ → EReal) (q : ℕ) : EReal :=
  (∑ k : Fin 128, x (128 * (q / 128) + k.1) * sign k.1 (q % 128)) * norm

/-- The rotation spelled out at the input's indices. -/
theorem rotated_row (norm : EReal) (x : Input) (r : Fin 12288) (q : Fin 8192) :
    (∑ k : Fin 128, x (ix3 ⟨r.1 / 2048, by omega⟩ ⟨r.1 % 2048, by omega⟩ ⟨q.1 / 128 * 128 + k.1, by omega⟩) * sign k.1 (q.1 % 128)) * norm
      = rotated norm (row x r) q.1 := by
  unfold rotated
  refine congrArg (· * norm) (Finset.sum_congr rfl fun k _ => ?_)
  have hq := q.2
  have hk := k.2
  rw [row, dif_pos (by omega)]
  simp only [Nat.mul_comm]

/-- A product with the block-diagonal signs over 256 columns is the product with the signs over the 128 columns of its half:
    the other half's terms are zero. -/
theorem sum_blockSign (x : ℕ → EReal) (g : ℕ) (j : ℕ) (hj : j < 256) :
    ∑ k : Fin 256, x (256 * g + k.1) * blockSign k.1 j
      = ∑ k : Fin 128, x (128 * ((256 * g + j) / 128) + k.1) * sign k.1 ((256 * g + j) % 128) := by
  rw [Fin.sum_univ_add (a := 128) (b := 128) (fun k : Fin (128 + 128) => x (256 * g + k.1) * blockSign k.1 j)]
  have hjm : (256 * g + j) % 128 = j % 128 := by omega
  rw [hjm]
  by_cases hlow : j < 128
  · have h0 : ∀ k : Fin 128, x (256 * g + (Fin.natAdd 128 k).1) * blockSign (Fin.natAdd 128 k).1 j = 0 := fun k => by
      have := k.2
      rw [blockSign, if_neg (by rw [Fin.val_natAdd]; omega), mul_zero]
    rw [Finset.sum_congr rfl (fun k _ => h0 k), Finset.sum_const_zero, add_zero]
    refine Finset.sum_congr rfl fun k _ => ?_
    have hk := k.2
    rw [Fin.val_castAdd, blockSign, if_pos (by omega), show k.1 % 128 = k.1 by omega,
      show 128 * ((256 * g + j) / 128) + k.1 = 256 * g + k.1 by omega]
  · have h0 : ∀ k : Fin 128, x (256 * g + (Fin.castAdd 128 k).1) * blockSign (Fin.castAdd 128 k).1 j = 0 := fun k => by
      have := k.2
      rw [blockSign, if_neg (by rw [Fin.val_castAdd]; omega), mul_zero]
    rw [Finset.sum_congr rfl (fun k _ => h0 k), Finset.sum_const_zero, zero_add]
    refine Finset.sum_congr rfl fun k _ => ?_
    have hk := k.2
    rw [Fin.val_natAdd, blockSign, if_pos (by omega), show (128 + k.1) % 128 = k.1 by omega,
      show 128 * ((256 * g + j) / 128) + k.1 = 256 * g + (128 + k.1) by omega]

end Cert.Proof

end
-- ==== Proof.Quantise.lean ====
/- What both programs compute for one token, as scalars: its largest magnitude, its scale and its codes. -/
module

public import proofs.«01_k».proof.Proof.Scale
public import proofs.«01_k».proof.Proof.Signs

@[expose] public section

noncomputable section

namespace Cert.Proof

open Idealize.ShloMosaic

/-- The largest magnitude over a token's 8192 columns. -/
def largest (y : ℕ → EReal) : EReal :=
  (Finset.univ : Finset (Fin 8192)).fold max (Ideal.ofBits .f32 0xFF800000#32) fun q => max (y q.1) (-(y q.1))

/-- The largest magnitude over the format's largest code (1/448 as a 32-bit float). -/
def ratio (a : EReal) : EReal := a * Ideal.ofBits .f32 0x3B124925#32

/-- The code of an element: scaled, and clipped to the format's range. -/
def code (y inv : EReal) : EReal :=
  min (Ideal.ofBits .f32 0x43E00000#32) (max (Ideal.ofBits .f32 0xC3E00000#32) (y * inv))

/-- The reference's scale of a token. -/
def refScaleOf (y : ℕ → EReal) : EReal := refPow (refExponent (largest y) (ratio (largest y)))

/-- The reference's inverse scale of a token. -/
def refInvOf (y : ℕ → EReal) : EReal := refPow (0 - refExponent (largest y) (ratio (largest y)))

theorem ofBits_two : Ideal.ofBits .f32 0x40000000#32 = ((2 : ℝ) : EReal) := by
  show Ideal.ieee 8 23 0x40000000#32 = _
  simp only [Ideal.ieee, show (BitVec.extractLsb' 31 1 0x40000000#32 == 1#1) = false by decide,
    show (BitVec.extractLsb' 23 8 0x40000000#32).toNat = 128 by decide, show (BitVec.extractLsb' 0 23 0x40000000#32).toNat = 0 by decide]
  norm_num

theorem ofBits_smallest_normal : Ideal.ofBits .f32 0x00800000#32 = (((2 : ℝ) ^ (-126 : ℤ) : ℝ) : EReal) := by
  refine (ofField_ofNat 1 (by norm_num)).trans ?_
  rw [fieldValue, if_neg (by norm_num), if_neg (by norm_num), EReal.coe_eq_coe_iff]
  norm_num

theorem ofBits_inf : Ideal.ofBits .f32 0x7F800000#32 = ⊤ := by
  have h := ofField_ofNat 255 (by norm_num)
  exact h

theorem ofBits_127 : Ideal.ofBits .f32 0x42FE0000#32 = ((127 : ℝ) : EReal) := by
  show Ideal.ieee 8 23 0x42FE0000#32 = _
  simp only [Ideal.ieee, show (BitVec.extractLsb' 31 1 0x42FE0000#32 == 1#1) = false by decide,
    show (BitVec.extractLsb' 23 8 0x42FE0000#32).toNat = 133 by decide, show (BitVec.extractLsb' 0 23 0x42FE0000#32).toNat = 0x7E0000 by decide]
  norm_num

theorem ofBits_neg_126 : Ideal.ofBits .f32 0xC2FC0000#32 = ((-126 : ℝ) : EReal) := by
  show Ideal.ieee 8 23 0xC2FC0000#32 = _
  simp only [Ideal.ieee, show (BitVec.extractLsb' 31 1 0xC2FC0000#32 == 1#1) = true by decide,
    show (BitVec.extractLsb' 23 8 0xC2FC0000#32).toNat = 133 by decide, show (BitVec.extractLsb' 0 23 0xC2FC0000#32).toNat = 0x7C0000 by decide]
  norm_num

end Cert.Proof

end
-- ==== Proof.Columns.lean ====
/- A row's maximum kept as a column, and a tile's codes from a column of inverse scales: both read at a row, at any number of
   rows and columns. -/
module

public import proofs.«01_k».proof.Proof.Quantise
public import Idealize.ShloMosaic.PureOps.Ideal
public import Idealize.ShloMosaic.PureOps.Ideal.Laws
public import Idealize.ShloMosaic.Lib.Pipeline.Value
public import Idealize.ShloMosaic.Lib.Pointwise

@[expose] public section

noncomputable section

namespace Cert.Proof

open Idealize.ShloMosaic

/-- The maximum over a row's columns, as a one-column array, at row `r`: the fold of `max` over the row. -/
theorem rowMax_apply {n k : ℕ} (src : FVec Ideal ⟨2, ![n, k]⟩ .f32) (acc : BitVec 32)
    (h : (⟨2, ![n, k]⟩ : Shape).Reduces [1] ⟨1, ![n]⟩) (hφ : FKind.Formats .f32) (hacc : acc = FKind.maximumf.neutral .f32 hφ)
    (hc : (⟨1, ![n]⟩ : Shape).ShapeCasts ⟨2, ![n, 1]⟩) (r : Fin n) (z : Fin 1) :
    shapeCast ⟨2, ![n, 1]⟩ (multiReduction .maximumf [1] ⟨1, ![n]⟩ src acc h hφ hacc) hc (ix2 r z)
      = (Finset.univ : Finset (Fin k)).fold max (Ideal.ofBits .f32 acc) fun q => src (ix2 r q) := by
  rw [shapeCast_apply _ _ (ix2 r z) (ix1 r) (by
    rw [Shape.rowMajor_val_one, Shape.rowMajor_val_two]
    have := z.2
    show r.1 = r.1 * 1 + z.1
    omega)]
  rw [Ideal.multiReduction_maximumf_single]
  refine congrArg (fun f => (Finset.univ : Finset (Fin k)).fold max (Ideal.ofBits .f32 acc) f) (funext fun q => ?_)
  refine congrArg src (funext fun a => ?_)
  match a with
  | ⟨0, _⟩ => rfl
  | ⟨1, _⟩ => rfl

/-- A one-column array spread over the columns, at row `r` and column `q`: the array at row `r`. -/
theorem spread_apply {α : Type} {n k : ℕ} (v : (⟨2, ![n, 1]⟩ : Shape).Idx → α) (h : (⟨2, ![n, 1]⟩ : Shape).Broadcasts ⟨2, ![n, k]⟩)
    (hn : n ≠ 1) (r : Fin n) (q : Fin k) : broadcastTo ⟨2, ![n, k]⟩ v h (ix2 r q) = v (ix2 r 0) := by
  refine broadcastTo_apply v h (ix2 r q) (ix2 r 0) fun a => ?_
  match a with
  | ⟨0, _⟩ => exact (if_neg (show ¬ n = 1 from hn)).symm
  | ⟨1, _⟩ => exact (if_pos rfl).symm

/-- A tile of codes: every element scaled by its row's inverse scale and clipped to the format's range. -/
def codesOf {n k : ℕ} (y : FVec Ideal ⟨2, ![n, k]⟩ .f32) (inv : FVec Ideal ⟨2, ![n, 1]⟩ .f32)
    (h : (⟨2, ![n, 1]⟩ : Shape).Broadcasts ⟨2, ![n, k]⟩) (hb : FTy.fp8e4m3.bits < FTy.f32.bits) : FVec Ideal ⟨2, ![n, k]⟩ .fp8e4m3 :=
  truncf .fp8e4m3 (minimumf (broadcast ⟨2, ![n, k]⟩ (Scalar.ofBits .f32 0x43E00000#32))
    (maximumf (broadcast ⟨2, ![n, k]⟩ (Scalar.ofBits .f32 0xC3E00000#32)) (mulf y (broadcastTo ⟨2, ![n, k]⟩ inv h)))) hb

/-- The tile of codes at row `r`, column `q`. -/
theorem codesOf_apply {n k : ℕ} (y : FVec Ideal ⟨2, ![n, k]⟩ .f32) (inv : FVec Ideal ⟨2, ![n, 1]⟩ .f32)
    (h : (⟨2, ![n, 1]⟩ : Shape).Broadcasts ⟨2, ![n, k]⟩) (hb : FTy.fp8e4m3.bits < FTy.f32.bits) (hn : n ≠ 1) (r : Fin n) (q : Fin k) :
    codesOf y inv h hb (ix2 r q) = code (y (ix2 r q)) (inv (ix2 r 0)) := by
  show code (y (ix2 r q)) (broadcastTo ⟨2, ![n, k]⟩ inv h (ix2 r q)) = _
  rw [spread_apply _ _ hn]

end Cert.Proof

end
-- ==== Proof.KernelTiles.lean ====
/- The kernel's products of one row block, column piece by column piece, and their running maximum. -/
module

public import proofs.«01_k».proof.Proof.Gen.KernelIdeal.Value
public import proofs.«01_k».proof.Proof.Quantise
public import proofs.«01_k».proof.Proof.Columns
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof

open Cert.KernelIdeal Cert.KernelIdeal.Gen Idealize.ShloMosaic Idealize.ShloMosaic.TcCoe Idealize.SL.Sem

/-- The columns `o`, …, `o + 255` of a row block. -/
def piece {α : Type} [Zero α] (X : S256x8192.Idx → α) (o : ℕ) : S256x256.Idx → α :=
  fun j => if h : o + (j 1).1 < 8192 then X (ix2 (j 0) ⟨o + (j 1).1, h⟩) else 0

/-- A load of a column piece reads the piece. -/
theorem ld_piece (X : S256x8192.Idx → EReal) (o : ℕ) (inb : ∀ a, (![0, o] : Fin 2 → ℕ) a + S256x256.size a ≤ S256x8192.size a) :
    (fun x => X ((Rect.unit (s := S256x8192) ![0, o] S256x256.size inb).idx x)) = piece X o := by
  funext j
  have ho : o + 256 ≤ 8192 := inb 1
  have hj : (j 1).1 < 256 := (j 1).2
  unfold piece
  rw [dif_pos (by omega)]
  refine congrArg X (funext fun a => ?_)
  match a with
  | ⟨0, _⟩ => exact Fin.ext ((Rect.idx_unit_val _ _ _ _ _).trans (Nat.zero_add _))
  | ⟨1, _⟩ => exact Fin.ext (Rect.idx_unit_val _ _ _ _ _)

/-- A load of a column piece of the block of inputs. -/
theorem read_piece (arg1 : Memref sig .tc .vmem S256x8192 .bf16) (harg1 : arg1.IsWhole) (x0 : Vec Ideal S256x8192 .bf16) (o : ℕ)
    (inb : ∀ a, (![0, o] : Fin 2 → ℕ) a + S256x256.size a ≤ S256x8192.size a) :
    View.readAt (Elt Ideal) arg1.view (Rect.unit (s := S256x8192) ![0, o] (no_index S256x256.size) inb).toLoadRect (harg1.unread x0) = piece (α := EReal) x0 o := by
  rw [View.readAt_eq_ld, harg1.read_unread]
  exact ld_piece x0 o inb

/-- A load of the signs. -/
theorem read_signs (arg2 : Memref sig .tc .vmem S256x256 .bf16) (harg2 : arg2.IsWhole) (x1 : Vec Ideal S256x256 .bf16)
    (inb : ∀ a, (![0, 0] : Fin 2 → ℕ) a + S256x256.size a ≤ S256x256.size a) :
    View.readAt (Elt Ideal) arg2.view (Rect.unit (s := S256x256) ![0, 0] (no_index S256x256.size) inb).toLoadRect (harg2.unread x1) = x1 := by
  rw [View.readAt_eq_ld, harg2.read_unread]
  funext j
  refine congrArg x1 (funext fun a => Fin.ext ?_)
  match a with
  | ⟨0, _⟩ => exact (Rect.idx_unit_val _ _ _ _ _).trans (Nat.zero_add _)
  | ⟨1, _⟩ => exact (Rect.idx_unit_val _ _ _ _ _).trans (Nat.zero_add _)

/-- The kernel's product of the column piece at `o` with the signs, scaled by the rounded 1/√128. -/
def tile (x0 : Vec Ideal S256x8192 .bf16) (x1 : Vec Ideal S256x256 .bf16) (o : ℕ) : FVec Ideal S256x256 .f32 :=
  mulf (matmul (F := Ideal) (φ₁ := .bf16) (φ₂ := .bf16) dot_S256x256_S256x256_S256x256_1_0_0_1_n_n none (piece (α := EReal) x0 o) x1 (constant S256x256 .f32 0x00000000#32))
    (broadcast S256x256 (Scalar.ofBits .f32 0x3DB504F3#32))

theorem tile_fold (x0 : Vec Ideal S256x8192 .bf16) (x1 : Vec Ideal S256x256 .bf16) (o : ℕ) :
    mulf (matmul (F := Ideal) (φ₁ := .bf16) (φ₂ := .bf16) dot_S256x256_S256x256_S256x256_1_0_0_1_n_n none (piece (α := EReal) x0 o) x1 (constant S256x256 .f32 0x00000000#32))
    (broadcast S256x256 (Scalar.ofBits .f32 0x3DB504F3#32)) = tile x0 x1 o := rfl

/-- The running maximum of the magnitudes over the first `n + 1` column pieces, lane by lane. -/
def runMax (T : ℕ → FVec Ideal S256x256 .f32) : ℕ → FVec Ideal S256x256 .f32
  | 0 => absf (T 0)
  | n + 1 => maximumf (runMax T n) (absf (T (256 * (n + 1))))

/-- The running maximum that the kernel holds before its last column piece. -/
theorem running_eq (c : Dev nD) (arg1 : Memref sig .tc .vmem S256x8192 .bf16) (harg1 : arg1.IsWhole) (arg2 : Memref sig .tc .vmem S256x256 .bf16)
    (harg2 : arg2.IsWhole) (x0 : Vec Ideal S256x8192 .bf16) (x1 : Vec Ideal S256x256 .bf16) :
    kernelRun0_A.sl.r_17 c arg1 harg1 arg2 harg2 x0 x1 = runMax (tile x0 x1) 30 := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.cst_17, kernelRun0_A.sl.cst_88,
    k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81,
    read_piece, read_signs, shapeCast_self, tile_fold]
  generalize tile x0 x1 = T
  simp only [runMax, Nat.reduceAdd, Nat.reduceMul]

/-- The last column piece. -/
theorem last_eq (c : Dev nD) (arg1 : Memref sig .tc .vmem S256x8192 .bf16) (harg1 : arg1.IsWhole) (arg2 : Memref sig .tc .vmem S256x256 .bf16)
    (harg2 : arg2.IsWhole) (x0 : Vec Ideal S256x8192 .bf16) (x1 : Vec Ideal S256x256 .bf16) :
    kernelRun0_A.sl.r_18 c arg1 harg1 arg2 harg2 x0 x1 = tile x0 x1 7936 := by
  simp only [kernelRun0_A.sl.r_18, kernelRun0_A.sl.r, k0_pay2, k0_pay80, read_piece, read_signs, shapeCast_self, tile_fold]

/-- A tile at row `r`, column `j` is the rotated row at column `256 g + j`. -/
theorem tile_apply (x0 : Vec Ideal S256x8192 .bf16) (x1 : Vec Ideal S256x256 .bf16) (r : Fin 256) (x : ℕ → EReal)
    (hx : ∀ q : Fin 8192, x0 (ix2 r q) = x q.1) (hs : ∀ i j : Fin 256, x1 (ix2 i j) = blockSign i.1 j.1) (g : ℕ) (hg : g < 32) (j : Fin 256) :
    tile x0 x1 (256 * g) (ix2 r j) = rotated (Ideal.ofBits .f32 0x3DB504F3#32) x (256 * g + j.1) := by
  have hp : ∀ k : Fin 256, piece (α := EReal) x0 (256 * g) (ix2 r k) = x (256 * g + k.1) := fun k => by
    have hk := k.2
    unfold piece
    rw [dif_pos (show 256 * g + ((ix2 r k : S256x256.Idx) 1).1 < 8192 by show 256 * g + k.1 < 8192; omega)]
    exact hx ⟨256 * g + k.1, by omega⟩
  unfold rotated
  rw [← sum_blockSign x g j.1 j.2]
  unfold tile
  pointwise
  simp only [hp, hs]

/-- The running maximum is at most a bound when every piece's magnitude is. -/
theorem runMax_le (T : ℕ → FVec Ideal S256x256 .f32) (i : S256x256.Idx) (b : EReal) (n : ℕ) :
    runMax T n i ≤ b ↔ ∀ g, g ≤ n → max (T (256 * g) i) (-(T (256 * g) i)) ≤ b := by
  induction n with
  | zero =>
    constructor
    · intro h g hg
      obtain rfl : g = 0 := by omega
      exact h
    · intro h
      exact h 0 le_rfl
  | succ n ih =>
    have hsucc : runMax T (n + 1) i = max (runMax T n i) (max (T (256 * (n + 1)) i) (-(T (256 * (n + 1)) i))) := rfl
    rw [hsucc, max_le_iff, ih]
    constructor
    · rintro ⟨h1, h2⟩ g hg
      rcases Nat.lt_or_ge n g with h | h
      · obtain rfl : g = n + 1 := by omega
        exact h2
      · exact h1 g h
    · intro h
      exact ⟨fun g hg => h g (by omega), h (n + 1) le_rfl⟩

/-- The largest running maximum over the lanes is the largest magnitude over the row. -/
theorem runMax_largest (T : ℕ → FVec Ideal S256x256 .f32) (r : Fin 256) (y : ℕ → EReal)
    (hT : ∀ g, g < 32 → ∀ j : Fin 256, T (256 * g) (ix2 r j) = y (256 * g + j.1)) :
    ((Finset.univ : Finset (Fin 256)).fold max (Ideal.ofBits .f32 0xFF800000#32) fun j => runMax T 31 (ix2 r j)) = largest y := by
  refine eq_of_forall_ge_iff fun b => ?_
  unfold largest
  rw [Finset.fold_max_le, Finset.fold_max_le]
  refine and_congr Iff.rfl ?_
  constructor
  · intro h q _
    have hq := q.2
    have h1 := (runMax_le T _ b 31).mp (h ⟨q.1 % 256, by omega⟩ (Finset.mem_univ _)) (q.1 / 256) (by omega)
    rw [hT _ (by omega)] at h1
    rw [show 256 * (q.1 / 256) + (⟨q.1 % 256, by omega⟩ : Fin 256).1 = q.1 from Nat.div_add_mod q.1 256] at h1
    exact h1
  · intro h j _
    refine (runMax_le T _ b 31).mpr fun g hg => ?_
    have hj := j.2
    rw [hT g (by omega)]
    exact h ⟨256 * g + j.1, by omega⟩ (Finset.mem_univ _)

end Cert.Proof

end
-- ==== Proof.KernelScale.lean ====
/- The kernel's operations on a column of largest magnitudes: the scale and the inverse scale of every row. -/
module

public import proofs.«01_k».proof.Proof.Gen.KernelIdeal.Skeleton
public import proofs.«01_k».proof.Proof.Quantise
public import proofs.«01_k».proof.Proof.Columns
public import Idealize.ShloMosaic.Lib.Pointwise

@[expose] public section

noncomputable section

namespace Cert.Proof

open Cert.KernelIdeal Cert.KernelIdeal.Gen Idealize.ShloMosaic Idealize.ShloMosaic.TcCoe Idealize.SL.Sem

/-- One step of the search on a column. -/
def stepColumn (t : FVec Ideal S256x1 .f32) (field : IVec S256x1 32) (bit : BitVec 32) : IVec S256x1 32 :=
  select (cmpf .ole (bitcastToFloat .f32 (shli (addi field (broadcast S256x1 bit)) (broadcast S256x1 23#32))) t)
    (addi field (broadcast S256x1 bit)) field

/-- A choice by the bit of a comparison is the choice by the proposition. -/
theorem choose_ofBool {α : Type} (p : Prop) [Decidable p] (x y : α) :
    Scalar.select (BitVec.ofBool (decide p)) x y = if p then x else y := by
  by_cases h : p <;> simp [Scalar.select, h]

/-- A step on a column is the step at each row. -/
theorem stepColumn_apply (t : FVec Ideal S256x1 .f32) (field : IVec S256x1 32) (bit : BitVec 32) (j : S256x1.Idx) :
    stepColumn t field bit j = searchStep (t j) (field j) bit := by
  unfold stepColumn searchStep
  show Scalar.select (BitVec.ofBool (decide (Ideal.ofBits .f32 ((field j + bit) <<< (23#32).toNat) ≤ t j))) (field j + bit) (field j) = _
  rw [choose_ofBool]
  rfl

/-- The column of exponents, from the columns of largest magnitudes and of ratios and the fields found. -/
def fieldColumn (a : FVec Ideal S256x1 .f32) (field : IVec S256x1 32) : IVec S256x1 32 :=
  select (cmpf .oeq a (broadcast S256x1 (Scalar.ofBits .f32 0x00000000#32))) (broadcast S256x1 0#32)
    (select (ori (cmpi .eq field (broadcast S256x1 255#32)) (cmpi .eq field (broadcast S256x1 0#32))) (broadcast S256x1 0#32)
      (subi field (broadcast S256x1 126#32)))

theorem fieldColumn_apply (a : FVec Ideal S256x1 .f32) (field : IVec S256x1 32) (j : S256x1.Idx) :
    fieldColumn a field j = if a j = 0 then 0#32 else fieldExponent (field j) := by
  unfold fieldColumn fieldExponent
  pointwise
  refine if_congr Iff.rfl rfl ?_
  generalize field j = f
  by_cases h1 : f = 255#32
  · subst h1; rfl
  by_cases h2 : f = 0#32
  · subst h2; rfl
  have e1 : (f == 255#32) = false := by simpa using h1
  have e2 : (f == 0#32) = false := by simpa using h2
  rw [if_neg (by simp [h1, h2])]
  simp [IntOp.ori, IntOp.cmpi, IntOp.subi, Scalar.select, e1, e2]

/-- The float of a column of powers of two. -/
def wordColumn (k : IVec S256x1 32) : FVec Ideal S256x1 .f32 :=
  bitcastToFloat .f32 (shli (minsi (broadcast S256x1 255#32) (maxsi (broadcast S256x1 0#32) (addi k (broadcast S256x1 127#32))))
    (broadcast S256x1 23#32))

theorem wordColumn_apply (k : IVec S256x1 32) (j : S256x1.Idx) : wordColumn k j = ofField (powField (k j)) := by
  unfold wordColumn powField
  show Ideal.ofBits .f32 ((IntOp.minsi 255#32 (IntOp.maxsi 0#32 (k j + 127#32))) <<< (23#32).toNat) = _
  rfl

end Cert.Proof

end
-- ==== Proof.KernelColumns.lean ====
/- The kernel's scale and inverse scale of every row of a block. -/
module

public import proofs.«01_k».proof.Proof.KernelTiles
public import proofs.«01_k».proof.Proof.KernelScale

@[expose] public section

set_option maxRecDepth 16384

noncomputable section

namespace Cert.Proof

open Cert.KernelIdeal Cert.KernelIdeal.Gen Idealize.ShloMosaic Idealize.ShloMosaic.TcCoe Idealize.SL.Sem

/-- The column of a block's largest magnitudes. -/
def largestColumn (M : FVec Ideal S256x256 .f32) : FVec Ideal S256x1 .f32 :=
  shapeCast S256x1 (multiReduction .maximumf [1] S256 M 0xFF800000#32 reduces_S256x256_S256 (.inl rfl) rfl) shapeCasts_S256_S256x1

/-- The search on a column. -/
def searchColumn (t : FVec Ideal S256x1 .f32) : IVec S256x1 32 :=
  stepColumn t (stepColumn t (stepColumn t (stepColumn t (stepColumn t (stepColumn t (stepColumn t (stepColumn t (broadcast S256x1 0#32)
    128#32) 64#32) 32#32) 16#32) 8#32) 4#32) 2#32) 1#32

/-- The column of ratios. -/
def ratioColumn (a : FVec Ideal S256x1 .f32) : FVec Ideal S256x1 .f32 := mulf a (broadcast S256x1 (Scalar.ofBits .f32 0x3B124925#32))

/-- The column of exponents, from the column of largest magnitudes. -/
def exponents (a : FVec Ideal S256x1 .f32) : IVec S256x1 32 := fieldColumn a (searchColumn (ratioColumn a))

theorem exponents_apply (a : FVec Ideal S256x1 .f32) (j : S256x1.Idx) : exponents a j = kernelExponent (a j) (ratio (a j)) := by
  unfold exponents kernelExponent
  rw [fieldColumn_apply]
  unfold searchColumn search
  simp only [stepColumn_apply]
  rfl

/-- The kernel's exponents, from the running maximum before the last piece and the last piece. -/
theorem exponents_eq (M L : FVec Ideal S256x256 .f32) :
    k0_pay87 (F := Ideal) (k0_pay82 M L) (k0_pay83 M L) (k0_pay84 M L) (k0_pay85 M L) (k0_pay86 M L) = exponents (largestColumn (maximumf M (absf L))) := rfl

variable (c : Dev nD) (arg1 : Memref sig .tc .vmem S256x8192 .bf16) (harg1 : arg1.IsWhole) (arg2 : Memref sig .tc .vmem S256x256 .bf16)
  (harg2 : arg2.IsWhole) (x0 : Vec Ideal S256x8192 .bf16) (x1 : Vec Ideal S256x256 .bf16)

/-- The exponents that the body computes. -/
theorem body_exponents : kernelRun0_A.sl.r_24 c arg1 harg1 arg2 harg2 x0 x1 = exponents (largestColumn (runMax (tile x0 x1) 31)) := by
  simp only [kernelRun0_A.sl.r_24, kernelRun0_A.sl.r_19, kernelRun0_A.sl.r_20, kernelRun0_A.sl.r_21, kernelRun0_A.sl.r_22,
    kernelRun0_A.sl.r_23, running_eq, last_eq]
  exact exponents_eq _ _

/-- The inverse scales that the body computes. -/
theorem body_inverse : kernelRun0_A.sl.r_26 c arg1 harg1 arg2 harg2 x0 x1
    = wordColumn (subi (broadcast S256x1 0#32) (exponents (largestColumn (runMax (tile x0 x1) 31)))) := by
  simp only [kernelRun0_A.sl.r_26, body_exponents]
  rfl

/-- The scales that the body computes. -/
theorem body_scale : kernelRun0_A.sl.r_25 c arg1 harg1 arg2 harg2 x0 x1 = wordColumn (exponents (largestColumn (runMax (tile x0 x1) 31))) := by
  rw [← body_exponents c arg1 harg1 arg2 harg2 x0 x1]
  rfl

variable (r : Fin 256) (x : ℕ → EReal) (hx : ∀ q : Fin 8192, x0 (ix2 r q) = x q.1)
  (hs : ∀ i j : Fin 256, x1 (ix2 i j) = blockSign i.1 j.1)

include hx hs

/-- The largest magnitude of a row of the block is that of the rotated row. -/
theorem largestColumn_apply :
    largestColumn (runMax (tile x0 x1) 31) (ix2 r 0) = largest (rotated (Ideal.ofBits .f32 0x3DB504F3#32) x) :=
  (rowMax_apply _ _ _ _ _ _ r 0).trans
    (runMax_largest (tile x0 x1) r _ fun g hg j => tile_apply x0 x1 r x hx hs g hg j)

/-- A row's scale is the reference's. -/
theorem scale_apply : wordColumn (exponents (largestColumn (runMax (tile x0 x1) 31))) (ix2 r 0)
    = refScaleOf (rotated (Ideal.ofBits .f32 0x3DB504F3#32) x) := by
  rw [wordColumn_apply, exponents_apply, largestColumn_apply x0 x1 r x hx hs]
  exact (scale_eq _ _).1

/-- A row's inverse scale is the reference's. -/
theorem inverse_apply : wordColumn (subi (broadcast S256x1 0#32) (exponents (largestColumn (runMax (tile x0 x1) 31)))) (ix2 r 0)
    = refInvOf (rotated (Ideal.ofBits .f32 0x3DB504F3#32) x) := by
  rw [wordColumn_apply]
  show ofField (powField (0#32 - exponents (largestColumn (runMax (tile x0 x1) 31)) (ix2 r 0))) = _
  rw [exponents_apply, largestColumn_apply x0 x1 r x hx hs]
  exact (scale_eq _ _).2

end Cert.Proof

end
-- ==== Proof.KernelBlock.lean ====
/- What the kernel's body leaves of one block of 256 rows: the scales and the codes. -/
module

public import proofs.«01_k».proof.Proof.KernelColumns

@[expose] public section

set_option maxRecDepth 16384

noncomputable section

namespace Cert.Proof

open Cert.KernelIdeal Cert.KernelIdeal.Gen Idealize.ShloMosaic Idealize.ShloMosaic.TcCoe Idealize.SL.Sem

/-- The scratch buffer's contents after the products: every column piece's tile in its place. -/
def rotatedBlock (x0 : Vec Ideal S256x8192 .bf16) (x1 : Vec Ideal S256x256 .bf16) : S256x8192.Idx → EReal :=
  fun y => tile x0 x1 (256 * ((y 1).1 / 256)) (ix2 (y 0) ⟨(y 1).1 % 256, Nat.mod_lt _ (by norm_num)⟩)

/-- A tile is the scratch buffer's column piece. -/
theorem tile_piece (x0 : Vec Ideal S256x8192 .bf16) (x1 : Vec Ideal S256x256 .bf16) (o : ℕ)
    (inb : ∀ a, (![0, o] : Fin 2 → ℕ) a + S256x256.size a ≤ S256x8192.size a) (ho : o % 256 = 0) (x : S256x256.Idx) :
    tile x0 x1 o x = rotatedBlock x0 x1 ((Rect.unit (s := S256x8192) ![0, o] S256x256.size inb).idx x) := by
  have hj : (x 1).1 < 256 := (x 1).2
  have e0 : (((Rect.unit (s := S256x8192) ![0, o] S256x256.size inb).idx x) 0).1 = (x 0).1 :=
    (Rect.idx_unit_val _ _ _ _ _).trans (Nat.zero_add _)
  have e1 : (((Rect.unit (s := S256x8192) ![0, o] S256x256.size inb).idx x) 1).1 = o + (x 1).1 := Rect.idx_unit_val _ _ _ _ _
  unfold rotatedBlock
  have h1 : 256 * ((((Rect.unit (s := S256x8192) ![0, o] S256x256.size inb).idx x) 1).1 / 256) = o := by rw [e1]; omega
  rw [h1]
  refine congrArg (tile x0 x1 o) (funext fun a => Fin.ext ?_)
  match a with
  | ⟨0, _⟩ => exact e0.symm
  | ⟨1, _⟩ =>
    show (x 1).1 = (((Rect.unit (s := S256x8192) ![0, o] S256x256.size inb).idx x) 1).1 % 256
    rw [e1]; omega

/-- A tile before stores that are column pieces of the scratch buffer. -/
theorem tile_cons (x0 : Vec Ideal S256x8192 .bf16) (x1 : Vec Ideal S256x256 .bf16) (o : ℕ)
    (inb : ∀ a, (![0, o] : Fin 2 → ℕ) a + S256x256.size a ≤ S256x8192.size a) (ho : o % 256 = 0)
    {L : List (View.Piece (Elt Ideal) S256x8192 .f32)} (hL : View.PiecesOf (Val := Elt Ideal) (e := .f32) (rotatedBlock x0 x1) L) :
    View.PiecesOf (Val := Elt Ideal) (e := .f32) (rotatedBlock x0 x1) (⟨Rect.unit (s := S256x8192) ![0, o] S256x256.size inb, tile x0 x1 o⟩ :: L) :=
  ⟨fun x => tile_piece x0 x1 o inb ho x, hL⟩

section
variable (c : Dev nD) (arg1 : Memref sig .tc .vmem S256x8192 .bf16) (harg1 : arg1.IsWhole) (arg2 : Memref sig .tc .vmem S256x256 .bf16)
  (harg2 : arg2.IsWhole) (x0 : Vec Ideal S256x8192 .bf16) (x1 : Vec Ideal S256x256 .bf16)

/-- The stores into the scratch buffer are its column pieces. -/
theorem scratch_pieces :
    View.PiecesOf (rotatedBlock x0 x1) (kernelRun0_A.sl.HS0_32 (F := Ideal) c arg1 harg1 arg2 harg2 x0 x1) := by
  simp only [kernelRun0_A.sl.HS0_32,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.cst_17, kernelRun0_A.sl.cst_88,
    k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81,
    read_piece, read_signs, shapeCast_self, tile_fold]
  repeat refine tile_cons x0 x1 _ _ (by decide) ?_
  exact trivial

/-- The stores into the scratch buffer cover it. -/
theorem scratch_cover (y : S256x8192.Idx) :
    ∃ p ∈ kernelRun0_A.sl.HS0_32 (F := Ideal) c arg1 harg1 arg2 harg2 x0 x1, y ∈ p.1.set :=
  View.cover_of_tiledL (kernelRun0_A.sl.HS0_32 (F := Ideal) c arg1 harg1 arg2 harg2 x0 x1) S256x256.size (by sl_kernel_rfl) y

/-- A load of a column piece of the scratch buffer reads the piece's tile. -/
theorem scratch_read (arg5 : Memref sig .tc .vmem S256x8192 .f32) (o : ℕ)
    (inb : ∀ a, (![0, o] : Fin 2 → ℕ) a + S256x256.size a ≤ S256x8192.size a) (ho : o % 256 = 0) :
    arg5.view.readCov (kernelRun0_A.sl.HS0_32 (F := Ideal) c arg1 harg1 arg2 harg2 x0 x1)
      (Rect.unit (s := S256x8192) ![0, o] (no_index S256x256.size) inb).toLoadRect = tile x0 x1 o := by
  rw [View.readCov_eq_canon_ld _ _ _ (scratch_cover c arg1 harg1 arg2 harg2 x0 x1)]
  funext x
  rw [tile_piece x0 x1 o inb ho x]
  exact View.canon_apply_of_pieces (rotatedBlock x0 x1) _ (scratch_pieces c arg1 harg1 arg2 harg2 x0 x1).mem _
    (scratch_cover c arg1 harg1 arg2 harg2 x0 x1 _)

end

/-- The inverse scales of a block, as a column. -/
def inverseColumn (x0 : Vec Ideal S256x8192 .bf16) (x1 : Vec Ideal S256x256 .bf16) : FVec Ideal S256x1 .f32 :=
  wordColumn (subi (broadcast S256x1 0#32) (exponents (largestColumn (runMax (tile x0 x1) 31))))

/-- The codes of a block: every element of the scratch buffer with its row's inverse scale. -/
def codesBlock (x0 : Vec Ideal S256x8192 .bf16) (x1 : Vec Ideal S256x256 .bf16) : S256x8192.Idx → EReal :=
  fun y => code (rotatedBlock x0 x1 y) (inverseColumn x0 x1 (ix2 (y 0) 0))

/-- The body's inverse scales, from its exponents. -/
theorem inverse_of_exponents (c : Dev nD) (arg1 : Memref sig .tc .vmem S256x8192 .bf16) (harg1 : arg1.IsWhole)
    (arg2 : Memref sig .tc .vmem S256x256 .bf16) (harg2 : arg2.IsWhole) (x0 : Vec Ideal S256x8192 .bf16) (x1 : Vec Ideal S256x256 .bf16) :
    k0_pay89 (F := Ideal) (kernelRun0_A.sl.r_24 c arg1 harg1 arg2 harg2 x0 x1) = inverseColumn x0 x1 :=
  body_inverse c arg1 harg1 arg2 harg2 x0 x1

/-- The kernel's operations from a tile and the inverse scales to the codes. -/
theorem codes_fold (y : FVec Ideal S256x256 .f32) (inv : FVec Ideal S256x1 .f32) :
    truncf .fp8e4m3 (minimumf (broadcast S256x256 (Scalar.ofBits .f32 0x43E00000#32))
      (maximumf (broadcast S256x256 (Scalar.ofBits .f32 0xC3E00000#32)) (mulf y (broadcastTo S256x256 inv broadcasts_S256x1_S256x256))))
      bitsLt_fp8e4m3_f32 = codesOf y inv broadcasts_S256x1_S256x256 bitsLt_fp8e4m3_f32 := rfl

/-- The codes of a column piece are the block's codes there. -/
theorem codes_piece (x0 : Vec Ideal S256x8192 .bf16) (x1 : Vec Ideal S256x256 .bf16) (o : ℕ)
    (inb : ∀ a, (![0, o] : Fin 2 → ℕ) a + S256x256.size a ≤ S256x8192.size a) (ho : o % 256 = 0) (x : S256x256.Idx) :
    codesOf (tile x0 x1 o) (inverseColumn x0 x1) broadcasts_S256x1_S256x256 bitsLt_fp8e4m3_f32 x
      = codesBlock x0 x1 ((Rect.unit (s := S256x8192) ![0, o] S256x256.size inb).idx x) := by
  obtain ⟨r, q, rfl⟩ : ∃ r q : Fin 256, x = ix2 r q := ⟨x 0, x 1, eq_ix2 x⟩
  rw [codesOf_apply _ _ _ _ (by norm_num), tile_piece x0 x1 o inb ho]
  unfold codesBlock
  refine congrArg (fun z => code _ (inverseColumn x0 x1 (ix2 z 0))) (Fin.ext ?_)
  exact ((Rect.idx_unit_val _ _ _ _ _).trans (Nat.zero_add _)).symm

/-- A column piece's codes before stores that are column pieces of the block of codes. -/
theorem codes_cons (x0 : Vec Ideal S256x8192 .bf16) (x1 : Vec Ideal S256x256 .bf16) (o : ℕ)
    (inb : ∀ a, (![0, o] : Fin 2 → ℕ) a + S256x256.size a ≤ S256x8192.size a) (ho : o % 256 = 0)
    {L : List (View.Piece (Elt Ideal) S256x8192 .fp8e4m3)} (hL : View.PiecesOf (Val := Elt Ideal) (e := .fp8e4m3) (codesBlock x0 x1) L) :
    View.PiecesOf (Val := Elt Ideal) (e := .fp8e4m3) (codesBlock x0 x1) (⟨Rect.unit (s := S256x8192) ![0, o] S256x256.size inb,
      codesOf (tile x0 x1 o) (inverseColumn x0 x1) broadcasts_S256x1_S256x256 bitsLt_fp8e4m3_f32⟩ :: L) :=
  ⟨fun x => codes_piece x0 x1 o inb ho x, hL⟩

variable (c : Dev nD) (i : grid0.Coords) (arg1 : Memref sig .tc .vmem S256x8192 .bf16) (harg1 : arg1.IsWhole)
  (arg2 : Memref sig .tc .vmem S256x256 .bf16) (harg2 : arg2.IsWhole) (arg3 : Memref sig .tc .vmem S256x1 .f32) (harg3 : arg3.IsWhole)
  (arg4 : Memref sig .tc .vmem S256x8192 .fp8e4m3) (harg4 : arg4.IsWhole) (arg5 : Memref sig .tc .vmem S256x8192 .f32) (harg5 : arg5.IsWhole)
  (x0 : Vec Ideal S256x8192 .bf16) (x1 : Vec Ideal S256x256 .bf16)

set_option maxHeartbeats 800000 in
/-- The stores into the block of codes are its column pieces. -/
theorem codes_pieces : View.PiecesOf (codesBlock x0 x1)
    (kernelRun0_A (F := Ideal) c i arg1 harg1 arg2 harg2 arg3 harg3 arg4 harg4 arg5 harg5 x0 x1).2.1 := by
  dsimp only [kernelRun0_A]
  simp only [
    kernelRun0_A.sl.v416, kernelRun0_A.sl.v425, kernelRun0_A.sl.v434, kernelRun0_A.sl.v443, kernelRun0_A.sl.v452,
    kernelRun0_A.sl.v461, kernelRun0_A.sl.v470, kernelRun0_A.sl.v479, kernelRun0_A.sl.v488, kernelRun0_A.sl.v497,
    kernelRun0_A.sl.v506, kernelRun0_A.sl.v515, kernelRun0_A.sl.v524, kernelRun0_A.sl.v533, kernelRun0_A.sl.v542,
    kernelRun0_A.sl.v551, kernelRun0_A.sl.v560, kernelRun0_A.sl.v569, kernelRun0_A.sl.v578, kernelRun0_A.sl.v587,
    kernelRun0_A.sl.v596, kernelRun0_A.sl.v605, kernelRun0_A.sl.v614, kernelRun0_A.sl.v623, kernelRun0_A.sl.v632,
    kernelRun0_A.sl.v641, kernelRun0_A.sl.v650, kernelRun0_A.sl.v659, kernelRun0_A.sl.v668, kernelRun0_A.sl.v677,
    kernelRun0_A.sl.v686, kernelRun0_A.sl.v695,
    kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33,
    k0_pay1, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127,
    kernelRun0_A.sl.cst_199, inverse_of_exponents, scratch_read, codes_fold]
  repeat refine codes_cons x0 x1 _ _ (by decide) ?_
  exact trivial

/-- The codes that the body leaves. -/
theorem out_codes : out0_A_3 (F := Ideal) c i arg1 harg1 arg2 harg2 arg3 harg3 arg4 harg4 arg5 harg5 x0 x1 = codesBlock x0 x1 := by
  unfold out0_A_3
  rw [View.read_writes_junk_eq_canon]
  funext y
  exact View.canon_apply_of_pieces (codesBlock x0 x1) _
    (codes_pieces c i arg1 harg1 arg2 harg2 arg3 harg3 arg4 harg4 arg5 harg5 x0 x1).mem _
    (cover0_A_3 c i arg1 harg1 arg2 harg2 arg3 harg3 arg4 harg4 arg5 harg5 x0 x1 y)

/-- The scales that the body leaves. -/
theorem out_scales : out0_A_2 (F := Ideal) c i arg1 harg1 arg2 harg2 arg3 harg3 arg4 harg4 arg5 harg5 x0 x1
    = wordColumn (exponents (largestColumn (runMax (tile x0 x1) 31))) := by
  unfold out0_A_2
  rw [View.read_writes_junk_eq_canon]
  dsimp only [kernelRun0_A]
  rw [body_scale]
  exact View.canon_cons_unit_lit inb_S256x1_S256x1_0_0 _ [] (by decide)

section
variable (r : Fin 256) (x : ℕ → EReal) (hx : ∀ q : Fin 8192, x0 (ix2 r q) = x q.1)
  (hs : ∀ i j : Fin 256, x1 (ix2 i j) = blockSign i.1 j.1)
include hx hs

/-- The codes of a block at a row: the rotated row against the reference's inverse scale. -/
theorem codesBlock_apply (q : Fin 8192) : codesBlock x0 x1 (ix2 r q)
    = code (rotated (Ideal.ofBits .f32 0x3DB504F3#32) x q.1) (refInvOf (rotated (Ideal.ofBits .f32 0x3DB504F3#32) x)) := by
  have hq := q.2
  have hi : inverseColumn x0 x1 (ix2 r 0) = refInvOf (rotated (Ideal.ofBits .f32 0x3DB504F3#32) x) := inverse_apply x0 x1 r x hx hs
  have ht : rotatedBlock x0 x1 (ix2 r q) = rotated (Ideal.ofBits .f32 0x3DB504F3#32) x q.1 := by
    refine (tile_apply x0 x1 r x hx hs (q.1 / 256) (by omega) ⟨q.1 % 256, Nat.mod_lt _ (by norm_num)⟩).trans ?_
    exact congrArg (rotated _ x) (Nat.div_add_mod q.1 256)
  show code (rotatedBlock x0 x1 (ix2 r q)) (inverseColumn x0 x1 (ix2 r 0)) = _
  rw [hi, ht]

end

end Cert.Proof

end
-- ==== Proof.KernelEntry.lean ====
/- What the kernel's region finds in its two operands: the input's rows flattened, and the block-diagonal signs. -/
module

public import proofs.«01_k».proof.Proof.Gen.KernelIdeal.Value
public import proofs.«01_k».proof.Proof.Signs
public import Idealize.ShloMosaic.Lib.Claim

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-- The first operand at row `r`, column `q`: the input at batch `r / 2048`, position `r % 2048`, column `q`. -/
theorem kernel_entry_x (c : Dev nD) (r : Fin 12288) (q : Fin 8192) :
    (V m c main_v0 : S12288x8192.Idx → EReal) (ix2 r q)
      = row (m ((c : Thread nD τ).loc main_arg0) : S6x2048x8192.Idx → EReal) r q.1 := by
  have h : (V m c main_v0 : S12288x8192.Idx → EReal)
      = shapeCast S12288x8192 (m ((c : Thread nD τ).loc main_arg0) : S6x2048x8192.Idx → EReal) shapeCasts_S6x2048x8192_S12288x8192 := by
    simp only [V, hostOps0, hostOps0_1, hostOps0_2, hostOps0_3, hostOps0_4, hostOps0_5, hostOps0_6, List.flatten_cons,
      List.flatten_nil, List.append_nil, List.cons_append, List.nil_append]
    entry_read
    rfl
  rw [h]
  exact flatten_apply _ _ r q

/-- The second operand at row `i`, column `j`: the block-diagonal sign. -/
theorem kernel_entry_sign (c : Dev nD) (i j : Fin 256) :
    (V m c main_v23 : S256x256.Idx → EReal) (ix2 i j) = blockSign i.1 j.1 := by
  have h : (V m c main_v23 : S256x256.Idx → EReal) = fun y => blockSign (y 0).1 (y 1).1 := by
    simp only [V, hostOps0, hostOps0_1, hostOps0_2, hostOps0_3, hostOps0_4, hostOps0_5, hostOps0_6, List.flatten_cons,
      List.flatten_nil, List.append_nil, List.cons_append, List.nil_append]
    entry_read
    simp -implicitDefEqProofs only [StableHlo.TRef.toBuf, StableHlo.TRef.ofBuf, cast_cast, cast_eq]
    funext y
    pointwise
    exact blockSign_eq (y 0) (y 1)
  rw [h]
  rfl

end Cert.Proof

end
-- ==== Proof.KernelResult.lean ====
/- What the kernel's two result arrays hold after its run. -/
module

public import proofs.«01_k».proof.Proof.KernelBlock
public import proofs.«01_k».proof.Proof.KernelEntry

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-- The block of rows at point `t` is block `t`; the signs' block is the whole array. -/
theorem kernel_index : ∀ t : Fin grid0.N, win0_0.index t = ![t.1, 0] ∧ win0_1.index t = ![0, 0] ∧ win0_2.index t = ![t.1, 0]
    ∧ win0_3.index t = ![t.1, 0] := by
  decide +kernel

/-- Row `r` of the block at point `t` is row `256 t + r` of the array. -/
def rowAt (t : Fin grid0.N) (r : Fin 256) : Fin 12288 :=
  ⟨256 * t.1 + r.1, by have ht : t.1 < 48 := t.2; have hr := r.2; omega⟩

/-- The input block at a point, read at a row and a column. -/
theorem kernel_block_x (c : Dev nD) (t : Fin cfg0.N) (r : Fin 256) (q : Fin 8192) :
    (iblk m c 0 t : S256x8192.Idx → EReal) (ix2 r q)
      = row (m ((c : Thread nD τ).loc main_arg0) : S6x2048x8192.Idx → EReal) (rowAt t r) q.1 := by
  refine Eq.trans ?_ (kernel_entry_x m c (rowAt t r) q)
  blk_ext [iblk, (kernel_index t).1, rowAt]
  all_goals omega

/-- The signs' block at a point. -/
theorem kernel_block_sign (c : Dev nD) (t : Fin cfg0.N) (i j : Fin 256) :
    (iblk m c 1 t : S256x256.Idx → EReal) (ix2 i j) = blockSign i.1 j.1 := by
  refine Eq.trans ?_ (kernel_entry_sign m c i j)
  blk_ext [iblk, (kernel_index t).2.1]

/-- A row of the input, rotated and normed. -/
abbrev turnedRow (x : Input) (r : Fin 12288) : ℕ → EReal := rotated (Ideal.ofBits .f32 0x3DB504F3#32) (row x r)

/-- The scales. -/
theorem kernel_scales (c : Dev nD) :
    ((dats m 0 c).arrAt 2 cfg0.N : S12288x1.Idx → EReal)
      = fun i => refScaleOf (turnedRow (m ((c : Thread nD τ).loc main_arg0) : S6x2048x8192.Idx → EReal) (i 0)) := by
  refine (dats m 0 c).arrAt_eq_of_covers 2 _ (by decide +kernel) fun t hf y => ?_
  blk_simp
  rw [after0_2]
  have hv : (((View.whole main_v24_0).slice (win0_2.rect t)).emb y 0 : Fin 12288).1 = 256 * t.1 + (y 0 : Fin 256).1 := by
    blk_simp [(kernel_index t).2.2.1]
    omega
  have h0 : (((View.whole main_v24_0).slice (win0_2.rect t)).emb y 0 : Fin 12288) = rowAt t (y 0) := Fin.ext hv
  have hy : (y : S256x1.Idx) = ix2 (y 0) (0 : Fin 1) := by
    refine (eq_ix2 (y : S256x1.Idx)).trans ?_
    congr 1
    exact Subsingleton.elim (α := Fin 1) _ _
  rw [h0]
  unfold outsAt0
  rw [out_scales]
  refine (congrArg (wordColumn (exponents (largestColumn (runMax (tile (iblk m c 0 t) (iblk m c 1 t)) 31)))) hy).trans ?_
  exact scale_apply _ _ _ _ (kernel_block_x m c t _) (kernel_block_sign m c t)

/-- The codes. -/
theorem kernel_codes (c : Dev nD) :
    ((dats m 0 c).arrAt 3 cfg0.N : S12288x8192.Idx → EReal)
      = fun i => code (turnedRow (m ((c : Thread nD τ).loc main_arg0) : S6x2048x8192.Idx → EReal) (i 0) (i 1).1)
          (refInvOf (turnedRow (m ((c : Thread nD τ).loc main_arg0) : S6x2048x8192.Idx → EReal) (i 0))) := by
  refine (dats m 0 c).arrAt_eq_of_covers 3 _ (by decide +kernel) fun t hf y => ?_
  blk_simp
  rw [after0_3]
  have hv : (((View.whole main_v24_1).slice (win0_3.rect t)).emb y 0 : Fin 12288).1 = 256 * t.1 + (y 0 : Fin 256).1 := by
    blk_simp [(kernel_index t).2.2.2]
    omega
  have h0 : (((View.whole main_v24_1).slice (win0_3.rect t)).emb y 0 : Fin 12288) = rowAt t (y 0) := Fin.ext hv
  have h1 : win0_3.index t 1 * 8192 + (y 1 : Fin 8192).1 = (y 1 : Fin 8192).1 := by
    rw [(kernel_index t).2.2.2]
    show 0 * 8192 + (y 1 : Fin 8192).1 = _
    omega
  rw [h0, h1]
  unfold outsAt0
  rw [out_codes]
  refine (congrArg (codesBlock (iblk m c 0 t) (iblk m c 1 t)) (eq_ix2 (y : S256x8192.Idx))).trans ?_
  exact codesBlock_apply _ _ _ _ (kernel_block_x m c t _) (kernel_block_sign m c t) (y 1)

end Cert.Proof

end
-- ==== Proof.ReferenceRun.lean ====
/- What the reference's run leaves in its two result arrays, block by block: each output array after the run named, and what
   its one grid point writes back. -/
module

public import proofs.«01_k».proof.Proof.Gen.ReferenceIdeal.Frame
public import Idealize.ShloMosaic.Lib.Pipeline.Value

@[expose] public section

noncomputable section

namespace Cert.Proof.ReferenceRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S12288x1.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S12288x8192.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v20_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v20_1) = (dats m 0 c).arrAt 2 cfg0.N :=
  (h c).1 2

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20_0) = (dats m 0 c).arrAt 1 cfg0.N
      ∧ r.2.mem ((c : Thread nD τ).loc main_v20_1) = (dats m 0 c).arrAt 2 cfg0.N
      ∧ r.2.mem ((c : Thread nD τ).loc main_arg0) = m ((c : Thread nD τ).loc main_arg0) :=
  (θ_run defs _ _).mono (fun r h c => ⟨post1 m r h c,
      post2 m r h c,
      kept_main_arg0 m r h c⟩)
    (run_main m ρ)

end Cert.Proof.ReferenceRun

end
-- ==== Proof.ReferenceEntry.lean ====
/- What the reference's region finds in its operand: every row of the input rotated, group by group, and normed. -/
module

public import proofs.«01_k».proof.Proof.Gen.ReferenceIdeal.Frame
public import proofs.«01_k».proof.Proof.Signs
public import Idealize.ShloMosaic.Lib.Claim

@[expose] public section

set_option maxRecDepth 16384

noncomputable section

namespace Cert.Proof

open Cert.ReferenceIdeal Cert.ReferenceIdeal.Gen Idealize.ShloMosaic Idealize.ShloMosaic.TcCoe Idealize.SL.Sem

variable (m : (ℓ : Loc nD τ sig) → Buf (Elt Ideal) ℓ)

/-- The operand at row `r`, column `q`: the input's row `r`, rotated and normed, at column `q`. -/
theorem reference_entry (c : Dev nD) (r : Fin 12288) (q : Fin 8192) :
    (V m c main_v19 : S12288x8192.Idx → EReal) (ix2 r q)
      = rotated (Ideal.ofBits .f32 0x3DB504F3#32) (row (m ((c : Thread nD τ).loc main_arg0) : S6x2048x8192.Idx → EReal) r) q.1 := by
  have h : (V m c main_v19 : S12288x8192.Idx → EReal) = fun y =>
      rotated (Ideal.ofBits .f32 0x3DB504F3#32) (row (m ((c : Thread nD τ).loc main_arg0) : S6x2048x8192.Idx → EReal) (y 0)) (y 1).1 := by
    entry_read
    funext y
    pointwise
    exact rotated_row _ (m (c, Proc.devRef .tc main_arg0)) (y 0) (y 1)
  rw [h]
  rfl

end Cert.Proof

end
-- ==== Proof.ReferenceValue.lean ====
/- What the reference's region computes from its operand: the scale and the codes of every row. -/
module

public import proofs.«01_k».proof.Proof.Gen.ReferenceIdeal.Frame
public import proofs.«01_k».proof.Proof.Quantise
public import proofs.«01_k».proof.Proof.Columns
public import Idealize.ShloMosaic.Lib.Pointwise

@[expose] public section

noncomputable section

namespace Cert.Proof

open Cert.ReferenceIdeal Cert.ReferenceIdeal.Gen Idealize.ShloMosaic Idealize.ShloMosaic.TcCoe Idealize.SL.Sem

/-- A choice by the bit of a comparison is the choice by the proposition. -/
theorem select_ofBool {α : Type} (p : Prop) [Decidable p] (x y : α) :
    Scalar.select (BitVec.ofBool (decide p)) x y = if p then x else y := by
  by_cases h : p <;> simp [Scalar.select, h]

/-- The reference's operations on a column of largest magnitudes, up to the exponent. -/
def exponentColumn (a : FVec Ideal S12288x1 .f32) : FVec Ideal S12288x1 .f32 :=
  let t := mulf a (broadcast S12288x1 (Scalar.ofBits .f32 0x3B124925#32))
  select (cmpf .oeq a (broadcast S12288x1 (Scalar.ofBits .f32 0x00000000#32))) (broadcast S12288x1 (Scalar.ofBits .f32 0x00000000#32))
    (select (andi (cmpf .oge t (broadcast S12288x1 (Scalar.ofBits .f32 0x00800000#32)))
        (cmpf .olt t (broadcast S12288x1 (Scalar.ofBits .f32 0x7F800000#32))))
      (addf (floor (divf (log t) (log (broadcast S12288x1 (Scalar.ofBits .f32 0x40000000#32)))))
        (broadcast S12288x1 (Scalar.ofBits .f32 0x3F800000#32)))
      (broadcast S12288x1 (Scalar.ofBits .f32 0x00000000#32)))

/-- The column of exponents at a row is the exponent of the largest magnitude there. -/
theorem exponentColumn_apply (a : FVec Ideal S12288x1 .f32) (j : S12288x1.Idx) : exponentColumn a j = refExponent (a j) (ratio (a j)) := by
  unfold exponentColumn refExponent ratio
  pointwise
  rw [ofBits_two, ofBits_inf, ofBits_smallest_normal]
  refine if_congr Iff.rfl rfl ?_
  generalize a j * Ideal.ofBits .f32 0x3B124925#32 = t
  generalize (((2 : ℝ) ^ (-126 : ℤ) : ℝ) : EReal) = lo
  generalize ((2 : ℝ) : EReal) = two
  by_cases h1 : lo ≤ t <;> by_cases h2 : t < ⊤ <;> simp [h1, h2, IntOp.andi, Scalar.select]

/-- The reference's exponent of row `r`. -/
theorem reference_exponent (Y : Vec Ideal S12288x8192 .f32) (y : ℕ → EReal) (r : Fin 12288) (hY : ∀ q : Fin 8192, Y (ix2 r q) = y q.1) :
    k0_pay3 (F := Ideal) Y (ix2 r 0) = refExponent (largest y) (ratio (largest y)) := by
  have h : k0_pay3 (F := Ideal) Y = exponentColumn (shapeCast S12288x1 (multiReduction .maximumf [1] S12288 (absf (k0_pay2 Y))
      0xFF800000#32 reduces_S12288x8192_S12288 (.inl rfl) rfl) shapeCasts_S12288_S12288x1) := rfl
  have hm : (shapeCast S12288x1 (multiReduction .maximumf [1] S12288 (absf (k0_pay2 Y))
      0xFF800000#32 reduces_S12288x8192_S12288 (.inl rfl) rfl) shapeCasts_S12288_S12288x1) (ix2 r 0) = largest y := by
    refine (rowMax_apply _ _ _ _ _ _ r 0).trans ?_
    unfold largest
    refine congrArg (fun f => (Finset.univ : Finset (Fin 8192)).fold max (Ideal.ofBits .f32 0xFF800000#32) f) (funext fun q => ?_)
    rw [← hY q]
    rw [show k0_pay2 (F := Ideal) Y = Y from shapeCast_self _ _]
    rfl
  rw [h, exponentColumn_apply, hm]

/-- The reference's operations from an exponent to a power of two. -/
def powerColumn (k : FVec Ideal S12288x1 .f32) : FVec Ideal S12288x1 .f32 :=
  select (cmpf .ogt k (broadcast S12288x1 (Scalar.ofBits .f32 0x42FE0000#32))) (broadcast S12288x1 (Scalar.ofBits .f32 0x7F800000#32))
    (select (cmpf .olt k (broadcast S12288x1 (Scalar.ofBits .f32 0xC2FC0000#32))) (broadcast S12288x1 (Scalar.ofBits .f32 0x00000000#32))
      (exp2 k))

/-- The column of powers of two at a row. -/
theorem powerColumn_apply (k : FVec Ideal S12288x1 .f32) (j : S12288x1.Idx) : powerColumn k j = refPow (k j) := by
  unfold powerColumn refPow
  pointwise
  rw [ofBits_127, ofBits_inf, ofBits_neg_126]
  rfl

/-- The reference's negation of an exponent. -/
def negColumn (k : FVec Ideal S12288x1 .f32) : FVec Ideal S12288x1 .f32 := subf (broadcast S12288x1 (Scalar.ofBits .f32 0x00000000#32)) k

theorem negColumn_apply (k : FVec Ideal S12288x1 .f32) (j : S12288x1.Idx) : negColumn k j = 0 - k j := by
  show Ideal.ofBits .f32 0x00000000#32 - k j = _
  rw [Ideal.ofBits_zero_f32]

/-- The reference's scale of row `r`. -/
theorem reference_scale (Y : Vec Ideal S12288x8192 .f32) (y : ℕ → EReal) (r : Fin 12288) (hY : ∀ q : Fin 8192, Y (ix2 r q) = y q.1) :
    k0_pay4 (F := Ideal) Y (ix2 r 0) = refScaleOf y := by
  have h : k0_pay4 (F := Ideal) Y = powerColumn (k0_pay3 Y) := rfl
  rw [h, powerColumn_apply, reference_exponent Y y r hY]
  rfl

/-- The reference's codes of row `r`. -/
theorem reference_code (Y : Vec Ideal S12288x8192 .f32) (y : ℕ → EReal) (r : Fin 12288) (hY : ∀ q : Fin 8192, Y (ix2 r q) = y q.1)
    (q : Fin 8192) :
    k0_pay1 (F := Ideal) (k0_pay2 Y) (k0_pay6 Y) (k0_pay7 Y) (k0_pay8 Y) (Scalar.ofBits .f32 0x00000000#32) (ix2 r q)
      = code (y q.1) (refInvOf y) := by
  have h : k0_pay1 (F := Ideal) (k0_pay2 Y) (k0_pay6 Y) (k0_pay7 Y) (k0_pay8 Y) (Scalar.ofBits .f32 0x00000000#32)
      = codesOf (k0_pay2 Y) (powerColumn (k0_pay5 Y)) broadcasts_S12288x1_S12288x8192 bitsLt_fp8e4m3_f32 := rfl
  have h2 : k0_pay2 (F := Ideal) Y = Y := shapeCast_self _ _
  have h5 : k0_pay5 (F := Ideal) Y = negColumn (k0_pay3 Y) := rfl
  rw [h, codesOf_apply _ _ _ _ (by norm_num), h2, powerColumn_apply, h5, negColumn_apply, reference_exponent Y y r hY, hY q]
  unfold refInvOf
  exact Eq.refl _

end Cert.Proof

end
-- ==== Proof.ReferenceResult.lean ====
/- The reference's two result arrays after its run: the scale of every row and its codes. -/
module

public import proofs.«01_k».proof.Proof.ReferenceRun
public import proofs.«01_k».proof.Proof.ReferenceEntry
public import proofs.«01_k».proof.Proof.ReferenceValue
public import Idealize.ShloMosaic.Lib.Pipeline.ValueKit

@[expose] public section

set_option maxRecDepth 16384

noncomputable section

namespace Cert.Proof

open Cert.ReferenceIdeal Cert.ReferenceIdeal.Gen Idealize.ShloMosaic Idealize.ShloMosaic.TcCoe Idealize.SL.Sem

variable (m : (ℓ : Loc nD τ sig) → Buf (Elt Ideal) ℓ)

/-- A row of the input, rotated and normed. -/
def rotatedRow (x : Input) (r : Fin 12288) : ℕ → EReal := rotated (Ideal.ofBits .f32 0x3DB504F3#32) (row x r)

/-- Every window's block is its whole array. -/
theorem reference_index : ∀ t : Fin grid0.N, win0_0.index t = ![0, 0] ∧ win0_1.index t = ![0, 0] ∧ win0_2.index t = ![0, 0] := by
  decide +kernel

/-- The region's operand block at an index: the rotated row there. -/
theorem reference_block (c : Dev nD) (t : Fin cfg0.N) (r : Fin 12288) (q : Fin 8192) :
    (iblk m c 0 t : S12288x8192.Idx → EReal) (ix2 r q)
      = rotatedRow (m ((c : Thread nD τ).loc main_arg0) : S6x2048x8192.Idx → EReal) r q.1 := by
  refine Eq.trans ?_ (reference_entry m c r q)
  blk_ext [iblk, (reference_index t).1]

/-- The scales. -/
theorem reference_scales (c : Dev nD) :
    ((dats m 0 c).arrAt 1 cfg0.N : S12288x1.Idx → EReal)
      = fun i => refScaleOf (rotatedRow (m ((c : Thread nD τ).loc main_arg0) : S6x2048x8192.Idx → EReal) (i 0)) := by
  refine (dats m 0 c).arrAt_eq_of_covers 1 _ (by decide +kernel) fun t hf y => ?_
  blk_simp
  rw [after0_1]
  frame_out
  have h0 : (((View.whole main_v20_0).slice (win0_1.rect t)).emb y 0 : Fin 12288) = y 0 := Fin.ext (by
    blk_simp [(reference_index t).2.1])
  have hy : (y : S12288x1.Idx) = ix2 (y 0) (0 : Fin 1) := by
    refine (eq_ix2 (y : S12288x1.Idx)).trans ?_
    congr 1
    exact Subsingleton.elim (α := Fin 1) _ _
  rw [h0]
  refine (congrArg (k0_pay4 (F := Ideal) (iblk m c 0 t)) hy).trans ?_
  exact reference_scale _ _ _ (reference_block m c t _)

/-- The codes. -/
theorem reference_codes (c : Dev nD) :
    ((dats m 0 c).arrAt 2 cfg0.N : S12288x8192.Idx → EReal)
      = fun i => code (rotatedRow (m ((c : Thread nD τ).loc main_arg0) : S6x2048x8192.Idx → EReal) (i 0) (i 1).1)
          (refInvOf (rotatedRow (m ((c : Thread nD τ).loc main_arg0) : S6x2048x8192.Idx → EReal) (i 0))) := by
  refine (dats m 0 c).arrAt_eq_of_covers 2 _ (by decide +kernel) fun t hf y => ?_
  blk_simp
  rw [after0_2]
  frame_out
  have h0 : (((View.whole main_v20_1).slice (win0_2.rect t)).emb y 0 : Fin 12288) = y 0 := Fin.ext (by
    blk_simp [(reference_index t).2.2])
  have h1 : win0_2.index t 1 * 8192 + (y 1 : Fin 8192).1 = (y 1 : Fin 8192).1 := by
    rw [(reference_index t).2.2]
    show 0 * 8192 + (y 1 : Fin 8192).1 = _
    omega
  rw [h0, h1]
  refine (congrArg (k0_pay1 (F := Ideal) (k0_pay2 (iblk m c 0 t)) (k0_pay6 (iblk m c 0 t)) (k0_pay7 (iblk m c 0 t))
    (k0_pay8 (iblk m c 0 t)) (FloatOps.ofBits FTy.f32 0#32)) (eq_ix2 (y : S12288x8192.Idx))).trans ?_
  exact reference_code _ _ _ (reference_block m c t _) (y 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.KernelResult
public import proofs.«01_k».proof.Proof.ReferenceRun
public import proofs.«01_k».proof.Proof.ReferenceResult
public import Idealize.ShloMosaic.Adequacy
public import Idealize.ShloMosaic.Init

@[expose] public section

noncomputable section

namespace Cert.Proof

open Idealize.ShloMosaic Idealize.SL.Sem Cert.Kernel

/-- Over the extended reals the kernel and the reference leave the same scales and the same codes. -/
theorem same_results : Cert.algebraic_KernelIdeal_ReferenceIdeal := by
  intro m g m' g' _ harg
  refine ⟨fun c => fun i => refScaleOf (rotatedRow (m ((c.tc : Thread Cert.KernelIdeal.nD Cert.KernelIdeal.τ).loc Cert.KernelIdeal.main_arg0)) (i 0)),
    fun c => fun i => code (rotatedRow (m ((c.tc : Thread Cert.KernelIdeal.nD Cert.KernelIdeal.τ).loc Cert.KernelIdeal.main_arg0)) (i 0) (i 1).1)
      (refInvOf (rotatedRow (m ((c.tc : Thread Cert.KernelIdeal.nD Cert.KernelIdeal.τ).loc Cert.KernelIdeal.main_arg0)) (i 0))), ?_, ?_⟩
  · refine (θ_run _ _ _).mono (fun r h c => ?_) (Cert.KernelIdeal.Value.run_blocks m g)
    exact ⟨(h c).1.trans (kernel_scales m c), (h c).2.1.trans (kernel_codes m c), (h c).2.2⟩
  · refine (θ_run _ _ _).mono (fun r h c => ?_) (Cert.Proof.ReferenceRun.run_blocks m' g')
    refine ⟨(h c).1.trans ((reference_scales m' c).trans ?_), (h c).2.1.trans ((reference_codes m' c).trans ?_), (h c).2.2⟩
    · rw [harg c]; rfl
    · rw [harg c]; rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, same_results⟩

end Cert.Proof

end
